-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x512 : Shape := ⟨2, ![16384, 512]⟩
abbrev S16384x32 : Shape := ⟨2, ![16384, 32]⟩
abbrev S16 : Shape := ⟨1, ![16]⟩
abbrev S544x256 : Shape := ⟨2, ![544, 256]⟩
abbrev S256 : Shape := ⟨1, ![256]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16384x512 : S_.BroadcastsInDim S16384x512 (![] : Fin 0 → Fin S16384x512.rank)
  bcast_S_S16384x32 : S_.BroadcastsInDim S16384x32 (![] : Fin 0 → Fin S16384x32.rank)
  bcast_S_S544x256 : S_.BroadcastsInDim S544x256 (![] : Fin 0 → Fin S544x256.rank)

variable [Facts]

def fn {F : FTy → Type} [FloatOps F] (main_arg0 : FVec F S16384x512 .f32) (main_arg1 : FVec F S16384x32 .f32) (main_arg2 : IVec S16 32) (main_arg3 : FVec F S544x256 .f32) (main_arg4 : FVec F S256 .f32) (main_arg5 : FVec F S256 .f32) (main_arg6 : FVec F S256 .f32) : IVec S16 1 × IVec S_ 1 × IVec S16384x512 1 × IVec S16384x32 1 × IVec S544x256 1 :=
  let main_c : IVec S_ 32 := constantI S_ 32 1#32
  let main_v0 : IVec S16 32 := broadcastInDim S16 ![] bcast_S_S16 main_c
  let main_v1 : IVec S16 1 := cmpi .sge main_arg2 main_v0
  let main_c_0 : IVec S_ 32 := constantI S_ 32 16384#32
  let main_v2 : IVec S16 32 := broadcastInDim S16 ![] bcast_S_S16 main_c_0
  let main_v3 : IVec S16 1 := cmpi .sle main_arg2 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg2 main_c_1
  let main_c_2 : IVec S_ 32 := constantI S_ 32 16384#32
  let main_v6 : IVec S_ 1 := cmpi .eq main_v5 main_c_2
  let main_v7 : FVec F S16384x512 .f32 := Host.absf main_arg0
  let main_cst : FVec F S_ .f32 := constant S_ .f32 0x7F800000#32
  let main_v8 : FVec F S16384x512 .f32 := broadcastInDim S16384x512 ![] bcast_S_S16384x512 main_cst
  let main_v9 : IVec S16384x512 1 := cmpf .olt main_v7 main_v8
  let main_v10 : FVec F S16384x32 .f32 := Host.absf main_arg1
  let main_cst_3 : FVec F S_ .f32 := constant S_ .f32 0x7F800000#32
  let main_v11 : FVec F S16384x32 .f32 := broadcastInDim S16384x32 ![] bcast_S_S16384x32 main_cst_3
  let main_v12 : IVec S16384x32 1 := cmpf .olt main_v10 main_v11
  let main_v13 : FVec F S544x256 .f32 := Host.absf main_arg3
  let main_cst_4 : FVec F S_ .f32 := constant S_ .f32 0x7F800000#32
  let main_v14 : FVec F S544x256 .f32 := broadcastInDim S544x256 ![] bcast_S_S544x256 main_cst_4
  let main_v15 : IVec S544x256 1 := cmpf .olt main_v13 main_v14
  (main_v4, main_v6, main_v9, main_v12, main_v15)
-- ==== Kernel.lean ====
abbrev S16384x512 : Shape := ⟨2, ![16384, 512]⟩
abbrev S16384x32 : Shape := ⟨2, ![16384, 32]⟩
abbrev S16 : Shape := ⟨1, ![16]⟩
abbrev S544x256 : Shape := ⟨2, ![544, 256]⟩
abbrev S256 : Shape := ⟨1, ![256]⟩
abbrev S1x256 : Shape := ⟨2, ![1, 256]⟩
abbrev S16x1 : Shape := ⟨2, ![16, 1]⟩
abbrev S16384x256 : Shape := ⟨2, ![16384, 256]⟩
abbrev S16x256 : Shape := ⟨2, ![16, 256]⟩
abbrev S2048x512 : Shape := ⟨2, ![2048, 512]⟩
abbrev S2048x32 : Shape := ⟨2, ![2048, 32]⟩
abbrev S2048x256 : Shape := ⟨2, ![2048, 256]⟩
abbrev S512x256 : Shape := ⟨2, ![512, 256]⟩
abbrev S32x256 : Shape := ⟨2, ![32, 256]⟩
abbrev S16x16 : Shape := ⟨2, ![16, 16]⟩
abbrev S16x2048 : Shape := ⟨2, ![16, 2048]⟩
abbrev S15x256 : Shape := ⟨2, ![15, 256]⟩

abbrev nBuf : Space → Nat
  | .hbm => 13
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x32, .f32⟩
  | .hbm, ⟨2, _⟩ => ⟨S16, .i32⟩
  | .hbm, ⟨3, _⟩ => ⟨S544x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S16x1, .i32⟩
  | .hbm, ⟨11, _⟩ => ⟨S16384x256, .f32⟩
  | .hbm, ⟨12, _⟩ => ⟨S16x256, .f32⟩
  | .local _ .vmem, ⟨0, _⟩ => ⟨S16x1, .i32⟩
  | .local _ .vmem, ⟨1, _⟩ => ⟨S2048x512, .f32⟩
  | .local _ .vmem, ⟨2, _⟩ => ⟨S2048x512, .f32⟩
  | .local _ .vmem, ⟨3, _⟩ => ⟨S2048x32, .f32⟩
  | .local _ .vmem, ⟨4, _⟩ => ⟨S2048x32, .f32⟩
  | .local _ .vmem, ⟨5, _⟩ => ⟨S544x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S16x256, .f32⟩
  | .local _ .vmem, ⟨12, _⟩ => ⟨S16x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S544x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x512 : Shape := ⟨2, ![16384, 512]⟩
abbrev S16384x32 : Shape := ⟨2, ![16384, 32]⟩
abbrev S16 : Shape := ⟨1, ![16]⟩
abbrev S544x256 : Shape := ⟨2, ![544, 256]⟩
abbrev S256 : Shape := ⟨1, ![256]⟩
abbrev S16384x544 : Shape := ⟨2, ![16384, 544]⟩
abbrev S16384x256 : Shape := ⟨2, ![16384, 256]⟩
abbrev S1x256 : Shape := ⟨2, ![1, 256]⟩
abbrev S_ : Shape := ⟨0, ![]⟩
abbrev S16x1 : Shape := ⟨2, ![16, 1]⟩
abbrev S16x256 : Shape := ⟨2, ![16, 256]⟩
abbrev S15x256 : Shape := ⟨2, ![15, 256]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x32, .f32⟩
  | .hbm, ⟨2, _⟩ => ⟨S16, .i32⟩
  | .hbm, ⟨3, _⟩ => ⟨S544x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S16384x544, .f32⟩
  | .hbm, ⟨8, _⟩ => ⟨S16384x256, .f32⟩
  | .hbm, ⟨9, _⟩ => ⟨S1x256, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .i1⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S_, .i32⟩
  | .hbm, ⟨20, _⟩ => ⟨S_, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S_, .f32⟩
  | .hbm, ⟨26, _⟩ => ⟨S_, .f32⟩
  | .hbm, ⟨27, _⟩ => ⟨S16384x256, .f32⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S16, .i32⟩
  | .hbm, ⟨35, _⟩ => ⟨S16x1, .i32⟩
  | .hbm, ⟨36, _⟩ => ⟨S16x256, .f32⟩
  | .hbm, ⟨37, _⟩ => ⟨S_, .f32⟩
  | .hbm, ⟨38, _⟩ => ⟨S1x256, .f32⟩
  | .hbm, ⟨39, _⟩ => ⟨S15x256, .f32⟩
  | .hbm, ⟨40, _⟩ => ⟨S16x256, .f32⟩
  | .hbm, ⟨41, _⟩ => ⟨S16, .f32⟩
  | .hbm, ⟨42, _⟩ => ⟨S16x1, .f32⟩
  | .hbm, ⟨43, _⟩ => ⟨S16x256, .f32⟩
  | .hbm, ⟨44, _⟩ => ⟨S16x256, .f32⟩
  | .hbm, ⟨45, _⟩ => ⟨S16x256, .f32⟩
  | .hbm, ⟨46, _⟩ => ⟨S_, .f32⟩
  | .hbm, ⟨47, _⟩ => ⟨S16, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S16x256, .f32⟩
  | .hbm, ⟨53, _⟩ => ⟨S16x256, .f32⟩
  | .hbm, ⟨54, _⟩ => ⟨S16x256, .f32⟩
  | .hbm, ⟨55, _⟩ => ⟨S_, .f32⟩
  | .hbm, ⟨56, _⟩ => ⟨S16, .f32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | .hbm, ⟨61, _⟩ => ⟨S16x256, .f32⟩
  | .hbm, ⟨62, _⟩ => ⟨S16x256, .f32⟩
  | .hbm, ⟨63, _⟩ => ⟨S_, .f32⟩
  | .hbm, ⟨64, _⟩ => ⟨S16x1, .f32⟩
  | .hbm, ⟨65, _⟩ => ⟨S16x1, .f32⟩
  | .hbm, ⟨66, _⟩ => ⟨S16x1, .f32⟩
  | .hbm, ⟨67, _⟩ => ⟨S16x256, .f32⟩
  | .hbm, ⟨68, _⟩ => ⟨S16x256, .f32⟩
  | .hbm, ⟨69, _⟩ => ⟨S1x256, .f32⟩
  | .hbm, ⟨70, _⟩ => ⟨S16x256, .f32⟩
  | .hbm, ⟨71, _⟩ => ⟨S16x256, .f32⟩
  | .hbm, ⟨72, _⟩ => ⟨S1x256, .f32⟩
  | .hbm, ⟨73, _⟩ => ⟨S16x256, .f32⟩
  | .hbm, ⟨74, _⟩ => ⟨S16x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_call0_c : Ref sig .tc := ⟨.hbm, 19, rfl⟩
abbrev main_call1_call0_v0 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_call2_call0_cst : Ref sig .tc := ⟨.hbm, 25, rfl⟩
abbrev main_call2_call0_v0 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proof.Maths.lean ====
/- The plain mathematics the two programs share: the activation, the linear layer of one row, where a segment starts, and
   the normalisation of one row of segment means. -/
module

public import Idealize.ShloMosaic.PureOps.Ideal.Laws
public import Idealize.ShloMosaic.Lib.ValueIdx
public import Idealize.ShloMosaic.Lib.Pointwise

@[expose] public section

noncomputable section

namespace Cert.SegMean

open Idealize.ShloMosaic
open scoped BigOperators

/-- The leaky activation: a value that is not negative as it is, a negative one times the slope. -/
def leaky (z : EReal) : EReal := if 0 ≤ z then z else Ideal.ofBits .f32 0x3C23D70A#32 * z

/-- The linear layer at one row and column: the features against the first 512 weights, the mask against the last 32, and
    the bias. -/
def lin (x : Fin 512 → EReal) (q : Fin 32 → EReal) (w : Fin 544 → EReal) (b : EReal) : EReal :=
  ∑ k : Fin 512, x k * w ⟨k.val, by omega⟩ + ∑ k : Fin 32, q k * w ⟨512 + k.val, by omega⟩ + b

/-- Where segment `k` starts: the lengths of the segments before it, summed. -/
def start (n : Fin 16 → ℕ) (k : ℕ) : ℕ := ∑ x : Fin 16, if x.val < k then n x else 0

/-- The mean of a row of 256 values. -/
def mean (v : Fin 256 → EReal) : EReal := Ideal.div (∑ l : Fin 256, v l) (Ideal.ofBits .f32 0x43800000#32)

/-- The spread of a row about its mean, with the small constant added before the root. -/
def spread (v : Fin 256 → EReal) : EReal :=
  Ideal.sqrt (Ideal.div (∑ l : Fin 256, (v l - mean v) * (v l - mean v)) (Ideal.ofBits .f32 0x43800000#32)
    + Ideal.ofBits .f32 0x3727C5AC#32)

/-- One entry of a row, normalised, scaled and shifted. -/
def norm (v : Fin 256 → EReal) (g b : EReal) (j : Fin 256) : EReal := Ideal.div (v j - mean v) (spread v) * g + b

/-! ## Segment starts -/

/-- The first segment starts at row zero. -/
theorem start_zero (n : Fin 16 → ℕ) : start n 0 = 0 := by simp [start]

/-- A segment ends where the next one starts. -/
theorem start_succ (n : Fin 16 → ℕ) (k : Fin 16) : start n (k.val + 1) = start n k.val + n k := by
  unfold start
  rw [show n k = ∑ x : Fin 16, if x = k then n x else 0 by simp, ← Finset.sum_add_distrib]
  refine Finset.sum_congr rfl fun x _ => ?_
  rcases lt_trichotomy x.val k.val with h | h | h
  · rw [if_pos (by omega), if_pos h, if_neg (fun e => by subst e; omega), add_zero]
  · rw [if_pos (by omega), if_neg (by omega), if_pos (Fin.ext h), zero_add]
  · rw [if_neg (by omega), if_neg (by omega), if_neg (fun e => by subst e; omega)]

/-- After the last segment comes the sum of all lengths. -/
theorem start_last (n : Fin 16 → ℕ) : start n 16 = ∑ x : Fin 16, n x := by
  unfold start
  exact Finset.sum_congr rfl fun x _ => if_pos x.isLt

/-- No segment starts past the sum of all lengths. -/
theorem start_le (n : Fin 16 → ℕ) (k : ℕ) : start n k ≤ ∑ x : Fin 16, n x := by
  unfold start
  exact Finset.sum_le_sum fun x _ => by split <;> omega

/-! ## Sums of finite values: the rows from a place on, the rows before it -/

/-- A finite sum of reals, as an extended real. -/
theorem coe_sum {ι : Type} (s : Finset ι) (u : ι → ℝ) : ((∑ i ∈ s, u i : ℝ) : EReal) = ∑ i ∈ s, (u i : EReal) := by
  induction s using Finset.cons_induction with
  | empty => simp
  | cons a s ha ih => rw [Finset.sum_cons, Finset.sum_cons, EReal.coe_add, ih]

/-- The rows from `s` on, summed by a zero-one weight, over finite values. -/
theorem sum_from {N : ℕ} (u : Fin N → ℝ) (s : ℕ) :
    (∑ r : Fin N, (if s ≤ r.val then (1 : EReal) else 0) * (u r : EReal)) = ((∑ r : Fin N, if s ≤ r.val then u r else 0 : ℝ) : EReal) := by
  rw [coe_sum]
  refine Finset.sum_congr rfl fun r _ => ?_
  by_cases h : s ≤ r.val
  · rw [if_pos h, if_pos h, one_mul]
  · rw [if_neg h, if_neg h, zero_mul, EReal.coe_zero]

/-- The rows before `e`, summed, over finite values. -/
theorem sum_before {N : ℕ} (u : Fin N → ℝ) (e : ℕ) :
    (∑ r : Fin N, if r.val < e then (u r : EReal) else 0) = ((∑ r : Fin N, if r.val < e then u r else 0 : ℝ) : EReal) := by
  rw [coe_sum]
  refine Finset.sum_congr rfl fun r _ => ?_
  split <;> simp

/-- THE EQUATION: over finite values, what lies from `s` on less what lies from `e` on is what lies before `e` less what
    lies before `s`. -/
theorem suffix_sub_eq_prefix_sub {N : ℕ} (u : Fin N → ℝ) (s e : ℕ) :
    (∑ r : Fin N, (if s ≤ r.val then (1 : EReal) else 0) * (u r : EReal)) - (∑ r : Fin N, (if e ≤ r.val then (1 : EReal) else 0) * (u r : EReal))
      = (∑ r : Fin N, if r.val < e then (u r : EReal) else 0) - (∑ r : Fin N, if r.val < s then (u r : EReal) else 0) := by
  have total : ∀ a : ℕ, (∑ r : Fin N, if a ≤ r.val then u r else 0) + (∑ r : Fin N, if r.val < a then u r else 0) = ∑ r : Fin N, u r := by
    intro a
    rw [← Finset.sum_add_distrib]
    refine Finset.sum_congr rfl fun r _ => ?_
    by_cases h : a ≤ r.val
    · rw [if_pos h, if_neg (by omega), add_zero]
    · rw [if_neg h, if_pos (by omega), zero_add]
  rw [sum_from, sum_from, sum_before, sum_before, ← EReal.coe_sub, ← EReal.coe_sub]
  have h1 := total s
  have h2 := total e
  congr 1
  linarith

/-- No row lies from the end on. -/
theorem sum_from_end {N : ℕ} (y : Fin N → EReal) : (∑ r : Fin N, (if N ≤ r.val then (1 : EReal) else 0) * y r) = 0 :=
  Finset.sum_eq_zero fun r _ => by rw [if_neg (by have := r.isLt; omega), zero_mul]

/-- No row lies before row zero. -/
theorem sum_before_zero {N : ℕ} (y : Fin N → EReal) : (∑ r : Fin N, if r.val < 0 then y r else 0) = 0 :=
  Finset.sum_eq_zero fun r _ => if_neg (by omega)

/-! ## The activated rows, and a segment's row of means, off whole arrays -/

/-- The activated row `r` at column `j`, off the programs' arguments. -/
def act (X : FVec Ideal ⟨2, ![16384, 512]⟩ .f32) (Q : FVec Ideal ⟨2, ![16384, 32]⟩ .f32) (W : FVec Ideal ⟨2, ![544, 256]⟩ .f32)
    (B : FVec Ideal ⟨1, ![256]⟩ .f32) (r : Fin 16384) (j : Fin 256) : EReal :=
  leaky (lin (fun k => X (ix2 r k)) (fun k => Q (ix2 r k)) (fun k => W (ix2 k j)) (B (ix1 j)))

/-! ## Real arguments give real rows -/

/-- The sum of two reals is a real. -/
theorem real_add {x y : EReal} (hx : ∃ u : ℝ, x = u) (hy : ∃ u : ℝ, y = u) : ∃ u : ℝ, x + y = u := by
  obtain ⟨a, rfl⟩ := hx; obtain ⟨b, rfl⟩ := hy
  exact ⟨a + b, (EReal.coe_add a b).symm⟩

/-- The product of two reals is a real. -/
theorem real_mul {x y : EReal} (hx : ∃ u : ℝ, x = u) (hy : ∃ u : ℝ, y = u) : ∃ u : ℝ, x * y = u := by
  obtain ⟨a, rfl⟩ := hx; obtain ⟨b, rfl⟩ := hy
  exact ⟨a * b, (EReal.coe_mul a b).symm⟩

/-- A finite sum of reals is a real. -/
theorem real_sum {ι : Type} [Fintype ι] (f : ι → EReal) (h : ∀ i, ∃ u : ℝ, f i = u) : ∃ u : ℝ, ∑ i, f i = u := by
  choose u hu using h
  refine ⟨∑ i, u i, ?_⟩
  rw [coe_sum]
  exact Finset.sum_congr rfl fun i _ => hu i

/-- The slope is a real number. -/
theorem real_slope : ∃ u : ℝ, Ideal.ofBits .f32 0x3C23D70A#32 = u := by
  simp [Ideal.ofBits, Ideal.ieee, -EReal.coe_mul]

/-- The activation of a real is a real. -/
theorem real_leaky {z : EReal} (h : ∃ u : ℝ, z = u) : ∃ u : ℝ, leaky z = u := by
  unfold leaky
  split
  · exact h
  · exact real_mul real_slope h

/-- Over real features, masks and weights every activated entry of a column with a real bias is a real. -/
theorem real_act (X : FVec Ideal ⟨2, ![16384, 512]⟩ .f32) (Q : FVec Ideal ⟨2, ![16384, 32]⟩ .f32) (W : FVec Ideal ⟨2, ![544, 256]⟩ .f32)
    (B : FVec Ideal ⟨1, ![256]⟩ .f32) (hX : ∀ i, ∃ u : ℝ, (X i : EReal) = u) (hQ : ∀ i, ∃ u : ℝ, (Q i : EReal) = u)
    (hW : ∀ i, ∃ u : ℝ, (W i : EReal) = u) (r : Fin 16384) (j : Fin 256) (hB : ∃ u : ℝ, (B (ix1 j) : EReal) = u) :
    ∃ u : ℝ, act X Q W B r j = u :=
  real_leaky (real_add (real_add (real_sum _ fun _ => real_mul (hX _) (hW _)) (real_sum _ fun _ => real_mul (hQ _) (hW _))) hB)

/-- The difference of the sums from a segment's start and from its end is the difference of the sums before its end and before
    its start, the entries being real. -/
theorem segment_sum {N : ℕ} (y : Fin N → EReal) (hy : ∀ r, ∃ u : ℝ, y r = u) (s e : ℕ) :
    (∑ r : Fin N, (if s ≤ r.val then (1 : EReal) else 0) * y r) - ∑ r : Fin N, (if e ≤ r.val then (1 : EReal) else 0) * y r
      = (∑ r : Fin N, if r.val < e then y r else 0) - ∑ r : Fin N, if r.val < s then y r else 0 := by
  choose u hu using hy
  obtain rfl : y = fun r => (u r : EReal) := funext hu
  exact suffix_sub_eq_prefix_sub u s e

end Cert.SegMean

end
-- ==== Proof.Words.lean ====
/- A small word read as a float. -/
module

public import proofs.«01_k».proof.Proof.Maths
public import Idealize.ShloMosaic.Lib.DynamicIndex

@[expose] public section

noncomputable section

namespace Cert.SegMean

open Idealize.ShloMosaic

/-- A small natural's word, read signed and converted, is that natural. -/
theorem sitofp_ofNat (a : ℕ) (h : a < 2 ^ 31) : (FloatOps.sitofp (F := Ideal) .f32 (BitVec.ofNat 32 a) : EReal) = ((a : ℝ) : EReal) := by
  show (((BitVec.ofNat 32 a).toInt : ℝ) : EReal) = _
  rw [toInt_ofNat_of_lt h, Int.cast_natCast]

end Cert.SegMean

end
-- ==== Proof.Block.lean ====
/- What one grid point's arithmetic gives at an index: the activated row block, the row mask, the partial sums, the
   normalised result. Pure statements over variables. -/
module

public import proofs.«01_k».proof.Proof.Gen.KernelIdeal.Skeleton
public import proofs.«01_k».proof.Proof.Words
public import Idealize.ShloMosaic.Lib.Pointwise
public import Idealize.ShloMosaic.Lib.DynamicIndex
public import Idealize.ShloMosaic.Lib.WordCmp

@[expose] public section

set_option maxRecDepth 16384

noncomputable section

namespace Cert.SegMean

open Idealize.ShloMosaic
open Cert.KernelIdeal Cert.KernelIdeal.Gen
open scoped BigOperators

/-- The row block a point stores: the activation of the linear layer at its row and column. -/
theorem pay5_apply (W : FVec Ideal S544x256 .f32) (x : FVec Ideal S2048x512 .f32) (q : FVec Ideal S2048x32 .f32)
    (b : FVec Ideal S1x256 .f32) (r : Fin 2048) (j : Fin 256) :
    k0_pay5 (F := Ideal) W x q b (ix2 r j)
      = leaky (lin (fun k => x (ix2 r k)) (fun k => q (ix2 r k)) (fun k => W (ix2 k j)) (b (ix2 0 j))) := by
  pointwise [k0_pay5, leaky, lin]

/-- A point's partial product: the mask's row against the block's column. -/
theorem pay1_apply (y : FVec Ideal S2048x256 .f32) (g : FVec Ideal S16x2048 .f32) (k : Fin 16) (j : Fin 256) :
    k0_pay1 (F := Ideal) y g (constant S16x256 .f32 0x00000000#32) (ix2 k j) = ∑ r : Fin 2048, g (ix2 k r) * y (ix2 r j) := by
  pointwise [k0_pay1]

/-- The first point stores its partial product. -/
theorem pay2_apply (y : FVec Ideal S2048x256 .f32) (g : FVec Ideal S16x2048 .f32) (k : Fin 16) (j : Fin 256) :
    k0_pay2 (F := Ideal) y g (constant S16x256 .f32 0x00000000#32) (ix2 k j) = ∑ r : Fin 2048, g (ix2 k r) * y (ix2 r j) := by
  pointwise [k0_pay2, k0_pay1]

/-- A later point adds its partial product to what the accumulator held. -/
theorem pay3_apply (y : FVec Ideal S2048x256 .f32) (g : FVec Ideal S16x2048 .f32) (a : FVec Ideal S16x256 .f32) (k : Fin 16) (j : Fin 256) :
    k0_pay3 (F := Ideal) y g (constant S16x256 .f32 0x00000000#32) a (ix2 k j)
      = a (ix2 k j) + ∑ r : Fin 2048, g (ix2 k r) * y (ix2 r j) := by
  pointwise [k0_pay3, k0_pay1]

/-- What the last point stores: the differences of neighbouring accumulator rows over the lengths, normalised. -/
theorem pay4_apply (l : FVec Ideal S16x1 .f32) (a : FVec Ideal S16x256 .f32) (g b : FVec Ideal S1x256 .f32) (k : Fin 16) (j : Fin 256) :
    k0_pay4 (F := Ideal) l a g b (ix2 k j)
      = norm (fun x => Ideal.div (a (ix2 k x) - (if h : k.val < 15 then a (ix2 ⟨1 + k.val, by omega⟩ x) else 0)) (l (ix2 k 0)))
          (g (ix2 0 j)) (b (ix2 0 j)) j := by
  pointwise [k0_pay4, norm, spread, mean]

/-- A condition's bit, widened and converted, is one where it holds and zero elsewhere. -/
theorem sitofp_bit (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- The word of the point's row: the point's number times the block's height, plus the row in the block. -/
theorem row_word (t r : ℕ) (ht : t < 8) (hr : r < 2048) :
    IntOp.addi (Scalar.muli (BitVec.ofNat 32 t) 2048#32) (BitVec.ofNat 32 r) = BitVec.ofNat 32 (2048 * t + r) := by
  apply BitVec.eq_of_toNat_eq
  show ((BitVec.ofNat 32 t * 2048#32) + BitVec.ofNat 32 r).toNat = _
  simp only [BitVec.toNat_add, BitVec.toNat_mul, BitVec.toNat_ofNat]
  omega

/-- The lengths before segment `k`, summed as floats by a zero-one weight, are the segment's start. -/
theorem start_float (n : Fin 16 → ℕ) (hn : ∀ k, n k ≤ 16384) (k : Fin 16) :
    (∑ x : Fin 16, (FloatOps.sitofp (F := Ideal) .f32
        (BitVec.setWidth 32 (IntOp.cmpi CmpIPredicate.slt (BitVec.ofNat 32 x.val) (BitVec.ofNat 32 k.val))) : EReal)
          * (FloatOps.sitofp (F := Ideal) .f32 (BitVec.ofNat 32 (n x)) : EReal)) = ((start n k.val : ℝ) : EReal) := by
  unfold start
  rw [Nat.cast_sum, coe_sum]
  refine Finset.sum_congr rfl fun x _ => ?_
  rw [WordCmp.cmpi_slt_ofNat (w := 32) (by omega) (by omega), sitofp_bit, sitofp_ofNat _ (by have := hn x; omega)]
  split <;> simp

/-- The row mask: a one where the point's row lies at or past the start of segment `k`, a zero elsewhere. -/
theorem pay7_apply (i : grid0.Coords) (l : IVec S16x1 32) (n : Fin 16 → ℕ) (hl : ∀ k : Fin 16, l (ix2 k 0) = BitVec.ofNat 32 (n k))
    (hn : ∀ k, n k ≤ 16384) (k : Fin 16) (r : Fin 2048) :
    k0_pay7 (F := Ideal) i l (ix2 k r) = if start n k.val ≤ 2048 * (i 0).val + r.val then (1 : EReal) else 0 := by
  have hi : (i 0).val < 8 := (i 0).isLt
  pointwise [k0_pay7, k0_pay6, hl]
  rw [sitofp_bit, row_word _ _ hi r.isLt, sitofp_ofNat _ (by omega), start_float n hn k]
  simp only [EReal.coe_le_coe_iff, Nat.cast_le]

/-- The lengths as floats. -/
theorem pay6_apply (l : IVec S16x1 32) (n : Fin 16 → ℕ) (hl : ∀ k : Fin 16, l (ix2 k 0) = BitVec.ofNat 32 (n k))
    (hn : ∀ k, n k ≤ 16384) (k : Fin 16) : k0_pay6 (F := Ideal) l (ix2 k 0) = ((n k : ℝ) : EReal) := by
  pointwise [k0_pay6, hl]
  exact sitofp_ofNat _ (by have := hn k; omega)

end Cert.SegMean

end
-- ==== Proof.Array.lean ====
/- What the kernel's two result arrays hold after the run. -/
module

public import proofs.«01_k».proof.Proof.Gen.KernelIdeal.Value
public import proofs.«01_k».proof.Proof.Block
public import Idealize.ShloMosaic.Lib.Pipeline.ValueKit
public import Idealize.ShloMosaic.Lib.Pipeline.ReadBack

@[expose] public section

set_option maxRecDepth 16384

noncomputable section

namespace Cert.SegMean

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The rows' windows move one block a point; the others stay. -/
theorem idx : ∀ t : Fin cfg0.N, win0_0.index t = ![0, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ (grid0.coords t 0).val = t.val :=
  (by decide +kernel : ∀ t : Fin grid0.N, _)

/-- The block of lengths is the argument's lengths. -/
theorem blk_len (t : Fin cfg0.N) (k : Fin 16) :
    (show IVec S16x1 32 from iblk m c 0 t) (ix2 k 0) = (show IVec S16 32 from m ((c : Thread nD τ).loc main_arg2)) (ix1 k) := by
  blk_point [iblk, V, idx t]

/-- Point `t`'s features: the argument's rows from `2048 t` on. -/
theorem blk_feat (t : Fin cfg0.N) (r : Fin 2048) (k : Fin 512) (h : t.val * 2048 + r.val < 16384) :
    (show FVec Ideal S2048x512 .f32 from iblk m c 1 t) (ix2 r k)
      = (show FVec Ideal S16384x512 .f32 from m ((c : Thread nD τ).loc main_arg0)) (ix2 ⟨t.val * 2048 + r.val, h⟩ k) := by
  blk_point [iblk, V, idx t]

/-- Point `t`'s mask columns: the argument's rows from `2048 t` on. -/
theorem blk_mask (t : Fin cfg0.N) (r : Fin 2048) (k : Fin 32) (h : t.val * 2048 + r.val < 16384) :
    (show FVec Ideal S2048x32 .f32 from iblk m c 2 t) (ix2 r k)
      = (show FVec Ideal S16384x32 .f32 from m ((c : Thread nD τ).loc main_arg1)) (ix2 ⟨t.val * 2048 + r.val, h⟩ k) := by
  blk_point [iblk, V, idx t]

/-- Every point's weights are the argument's. -/
theorem blk_weight (t : Fin cfg0.N) (k : Fin 544) (j : Fin 256) :
    (show FVec Ideal S544x256 .f32 from iblk m c 3 t) (ix2 k j)
      = (show FVec Ideal S544x256 .f32 from m ((c : Thread nD τ).loc main_arg3)) (ix2 k j) := by
  blk_point [iblk, V, idx t]

/-- Every point's bias is the argument's. -/
theorem blk_bias (t : Fin cfg0.N) (j : Fin 256) :
    (show FVec Ideal S1x256 .f32 from iblk m c 4 t) (ix2 0 j) = (show FVec Ideal S256 .f32 from m ((c : Thread nD τ).loc main_arg4)) (ix1 j) := by
  blk_point [iblk, V, idx t]

/-- The scale is the argument's. -/
theorem blk_gamma (t : Fin cfg0.N) (j : Fin 256) :
    (show FVec Ideal S1x256 .f32 from iblk m c 5 t) (ix2 0 j) = (show FVec Ideal S256 .f32 from m ((c : Thread nD τ).loc main_arg5)) (ix1 j) := by
  blk_point [iblk, V, idx t]

/-- The shift is the argument's. -/
theorem blk_beta (t : Fin cfg0.N) (j : Fin 256) :
    (show FVec Ideal S1x256 .f32 from iblk m c 6 t) (ix2 0 j) = (show FVec Ideal S256 .f32 from m ((c : Thread nD τ).loc main_arg6)) (ix1 j) := by
  blk_point [iblk, V, idx t]

/-! ## What each point leaves -/

/-- The rows point `t` writes, in each of the three cases. -/
theorem rows (t : Fin cfg0.N) :
    (outsAt0 m c t.val t.isLt).1 = k0_pay5 (iblk m c 3 t) (iblk m c 1 t) (iblk m c 2 t) (iblk m c 4 t) := by
  have hv : t.val < 8 := t.isLt
  by_cases h0 : t.val % 8 = 0
  · rw [outsAt0_A m c t h0 (by omega) (by omega)]; frame_out
  · by_cases h7 : t.val % 8 = 7
    · rw [outsAt0_C m c t h0 (by omega) h7]; frame_out
    · rw [outsAt0_B m c t h0 (by omega) h7]; frame_out

/-- The first point leaves its own part-sums in the scratch. -/
theorem scratch_first (t : Fin cfg0.N) (h0 : t.val % 8 = 0) :
    (outsAt0 m c t.val t.isLt).2.2
      = k0_pay2 (k0_pay5 (iblk m c 3 t) (iblk m c 1 t) (iblk m c 2 t) (iblk m c 4 t)) (k0_pay7 (grid0.coords t) (iblk m c 0 t))
          (constant S16x256 .f32 0x00000000#32) := by
  have hv : t.val < 8 := t.isLt
  rw [outsAt0_A m c t h0 (by omega) (by omega)]; frame_out

/-- A later point adds its own part-sums to what the point before left. -/
theorem scratch_next (t : Fin cfg0.N) (h0 : ¬t.val % 8 = 0) :
    (outsAt0 m c t.val t.isLt).2.2
      = k0_pay3 (k0_pay5 (iblk m c 3 t) (iblk m c 1 t) (iblk m c 2 t) (iblk m c 4 t)) (k0_pay7 (grid0.coords t) (iblk m c 0 t))
          (constant S16x256 .f32 0x00000000#32) (outsAt0 m c (t.val - 1) (by omega)).2.2 := by
  have hv : t.val < 8 := t.isLt
  by_cases h7 : t.val % 8 = 7
  · rw [outsAt0_C m c t h0 (by omega) h7]; frame_out
    rw [read_unread_whole]
  · rw [outsAt0_B m c t h0 (by omega) h7]; frame_out
    rw [read_unread_whole]

/-- The last point normalises the differences of the scratch it leaves. -/
theorem out_last (t : Fin cfg0.N) (h7 : t.val % 8 = 7) :
    (outsAt0 m c t.val t.isLt).2.1
      = k0_pay4 (k0_pay6 (iblk m c 0 t)) (outsAt0 m c t.val t.isLt).2.2 (iblk m c 5 t) (iblk m c 6 t) := by
  have hv : t.val < 8 := t.isLt
  rw [scratch_next m c t (by omega), outsAt0_C m c t (by omega) (by omega) h7]; frame_out
  rw [read_unread_whole]

/-! ## The values, over the arguments -/

/-- The activated row off the kernel's own arguments. -/
def actK (r : Fin 16384) (j : Fin 256) : EReal :=
  act (m ((c : Thread nD τ).loc main_arg0)) (m ((c : Thread nD τ).loc main_arg1)) (m ((c : Thread nD τ).loc main_arg3))
    (m ((c : Thread nD τ).loc main_arg4)) r j

/-- A point's rows are the activated rows from `2048 t` on. -/
theorem row_apply (t : Fin cfg0.N) (r : Fin 2048) (j : Fin 256) (h : t.val * 2048 + r.val < 16384) :
    k0_pay5 (F := Ideal) (iblk m c 3 t) (iblk m c 1 t) (iblk m c 2 t) (iblk m c 4 t) (ix2 r j) = actK m c ⟨t.val * 2048 + r.val, h⟩ j := by
  refine (pay5_apply _ _ _ _ r j).trans ?_
  unfold actK act
  congr 1
  rw [show (fun k => (show FVec Ideal S2048x512 .f32 from iblk m c 1 t) (ix2 r k)) = _ from funext fun k => blk_feat m c t r k h,
    show (fun k => (show FVec Ideal S2048x32 .f32 from iblk m c 2 t) (ix2 r k)) = _ from funext fun k => blk_mask m c t r k h,
    show (fun k => (show FVec Ideal S544x256 .f32 from iblk m c 3 t) (ix2 k j)) = _ from funext fun k => blk_weight m c t k j]
  exact congrArg (lin _ _ _) (blk_bias m c t j)

/-- The activated rows as an array. -/
def rowsK (i : S16384x256.Idx) : EReal := actK m c (i 0) (i 1)

/-- The rows' result array. -/
theorem rows_final : (dats m 0 c).arrAt 7 cfg0.N = rowsK m c := by
  refine (dats m 0 c).arrAt_eq_of_covers 7 _ (by decide +kernel) fun t hf y => ?_
  blk_simp
  rw [after0_7]
  idx_vars y
  have hv : t.val < 8 := t.isLt
  have h : t.val * 2048 + y0.val < 16384 := by omega
  have e : (win0_7.blk t).view.emb (ix2 y0 y1) = ix2 ⟨t.val * 2048 + y0.val, h⟩ y1 := by blk_ext [idx t]
  refine Eq.trans ?_ (congrArg (rowsK m c) e).symm
  refine (congrFun (rows m c t) _).trans ?_
  exact row_apply m c t y0 y1 h

variable (n : Fin 16 → ℕ) (hl : ∀ k : Fin 16, (show IVec S16 32 from m ((c : Thread nD τ).loc main_arg2)) (ix1 k) = BitVec.ofNat 32 (n k))
  (hn : ∀ k, n k ≤ 16384)

include hl hn in
/-- What point `t` adds to the scratch: its rows at or past the segment's start. -/
theorem part (t : Fin cfg0.N) (k : Fin 16) (j : Fin 256) :
    (∑ r : Fin 2048, k0_pay7 (F := Ideal) (grid0.coords t) (iblk m c 0 t) (ix2 k r)
        * k0_pay5 (F := Ideal) (iblk m c 3 t) (iblk m c 1 t) (iblk m c 2 t) (iblk m c 4 t) (ix2 r j) : EReal)
      = ∑ r : Fin 2048, (if h : t.val * 2048 + r.val < 16384 then
          (if start n k.val ≤ t.val * 2048 + r.val then (1 : EReal) else 0) * actK m c ⟨t.val * 2048 + r.val, h⟩ j else 0) := by
  refine Finset.sum_congr rfl fun r _ => ?_
  have hv : t.val < 8 := t.isLt
  have h : t.val * 2048 + r.val < 16384 := by omega
  have hc : (grid0.coords t 0).val = t.val := (idx t).2.2.2.2.2.2.2.2.2
  rw [dif_pos h, row_apply m c t r j h,
    pay7_apply (grid0.coords t) (iblk m c 0 t) n (fun k => (blk_len m c t k).trans (hl k)) hn k r, hc, Nat.mul_comm]

include hl hn in
/-- The scratch after the last point: each segment's sum of the activated rows from its start to the end. -/
theorem scratch_final (k : Fin 16) (j : Fin 256) :
    (show FVec Ideal S16x256 .f32 from (outsAt0 m c 7 (by decide)).2.2) (ix2 k j)
      = ∑ r : Fin 16384, (if start n k.val ≤ r.val then (1 : EReal) else 0) * actK m c r j := by
  have e := Pipeline.eq_sum_fin_of_reset_step_apply_last (N := cfg0.N) (M := EReal) (ι := Fin 16 × Fin 256)
    (fun t ht i => (show FVec Ideal S16x256 .f32 from (outsAt0 m c t ht).2.2) (ix2 i.1 i.2)) 8 (fun _ => 0)
    (fun t i => ∑ r : Fin 2048, (if h : t.val * 2048 + r.val < 16384 then
          (if start n i.1.val ≤ t.val * 2048 + r.val then (1 : EReal) else 0) * actK m c ⟨t.val * 2048 + r.val, h⟩ i.2 else 0))
    (fun t h0 i => by
      rw [zero_add, ← part m c n hl hn t i.1 i.2]
      exact (congrFun (scratch_first m c t h0) _).trans (pay2_apply _ _ _ _))
    (fun t h0 i => by
      rw [← part m c n hl hn t i.1 i.2]
      exact (congrFun (scratch_next m c t h0) _).trans (pay3_apply _ _ _ _ _))
    (by decide) ⟨7, by decide⟩ rfl (k, j)
  refine e.trans ?_
  rw [zero_add]
  refine Fin.sum_mul_add_congr (S := 8) (n := 2048) fun s r h => ?_
  exact dif_pos h

/-- The normalised means as an array. -/
def meansK (i : S16x256.Idx) : EReal :=
  norm (fun x => Ideal.div
      ((∑ r : Fin 16384, (if start n (i 0).val ≤ r.val then (1 : EReal) else 0) * actK m c r x)
        - ∑ r : Fin 16384, (if start n ((i 0).val + 1) ≤ r.val then (1 : EReal) else 0) * actK m c r x) ((n (i 0) : ℝ) : EReal))
    ((show FVec Ideal S256 .f32 from m ((c : Thread nD τ).loc main_arg5)) (ix1 (i 1)))
    ((show FVec Ideal S256 .f32 from m ((c : Thread nD τ).loc main_arg6)) (ix1 (i 1))) (i 1)

include hl hn in
/-- The normalised means' result array. -/
theorem means_final (hs : start n 16 = 16384) : (dats m 0 c).arrAt 8 cfg0.N = meansK m c n := by
  refine (dats m 0 c).arrAt_eq_of_covers 8 _ (by decide +kernel) fun t hf y => ?_
  blk_simp
  rw [after0_8]
  idx_vars y
  have h7 : t.val % 8 = 7 := (by decide +kernel : ∀ t : Fin cfg0.N, (cfg0.win 8).flush t = true → t.val % 8 = 7) t hf
  have hv : t.val < 8 := t.isLt
  have e : (win0_8.blk t).view.emb (ix2 y0 y1) = ix2 y0 y1 := by blk_ext [idx t]
  refine Eq.trans ?_ (congrArg (meansK m c n) e).symm
  refine (congrFun (out_last m c t h7) _).trans ((pay4_apply _ _ _ _ y0 y1).trans ?_)
  obtain rfl : t = ⟨7, by decide⟩ := Fin.ext (by show t.val = 7; omega)
  have hg := blk_gamma m c ⟨7, by decide⟩ y1
  have hb := blk_beta m c ⟨7, by decide⟩ y1
  have hk := pay6_apply (iblk m c 0 ⟨7, by decide⟩) n (fun k => (blk_len m c _ k).trans (hl k)) hn y0
  have ha := scratch_final m c n hl hn
  unfold meansK
  refine congr (congr (congr (congrArg norm ?_) hg) hb) rfl
  funext x
  refine congr (congrArg Ideal.div (congr (congrArg HSub.hSub (ha y0 x)) ?_)) hk
  split
  · next h =>
    refine (ha _ x).trans ?_
    show (∑ r : Fin 16384, (if start n (1 + y0.val) ≤ r.val then (1 : EReal) else 0) * actK m c r x) = _
    rw [Nat.add_comm]
    rfl
  · next h =>
    have : y0.val + 1 = 16 := by have := y0.isLt; omega
    show (0 : EReal) = ∑ r : Fin 16384, (if start n (y0.val + 1) ≤ r.val then (1 : EReal) else 0) * actK m c r x
    rw [this, hs, sum_from_end]

end Cert.SegMean

end
-- ==== Proof.Pre.lean ====
/- What the precondition says: the lengths are naturals between 1 and 16384 that sum to 16384, and the features, the
   mask and the weights are real numbers. -/
module

public import proofs.«01_k».proof.Defs
public import proofs.«01_k».proof.Proof.Maths
public import Idealize.ShloMosaic.Lib.Routing.Ops
public import Idealize.ShloMosaic.Lib.StableHlo.Predicate

@[expose] public section

set_option maxRecDepth 16384

noncomputable section

namespace Cert.SegMean

open Idealize.ShloMosaic Idealize.SL.Sem
open scoped BigOperators

/-- The shape relations the precondition's operations take. -/
theorem preFacts : Cert.Pre_drawn.Facts where
  bcast_S_S16 := by decide
  reducesTo_S16_S_d0 := by decide
  h_S_ := by decide
  bcast_S_S16384x512 := by decide
  bcast_S_S16384x32 := by decide
  bcast_S_S544x256 := by decide

/-- A value whose size compares below infinity is a real number. -/
theorem real_of_bit (x : Ideal .f32)
    (h : FloatOps.cmpf .olt (FloatOps.hostAbsf x) (FloatOps.ofBits (F := Ideal) .f32 0x7F800000#32) = 1#1) : ∃ u : ℝ, (x : EReal) = u := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    simp [Ideal.cmp, hn] at h
  rw [max_lt_iff] at hlt
  refine ⟨EReal.toReal x, (EReal.coe_toReal hlt.1.ne fun hb => ?_).symm⟩
  rw [hb] at hlt
  simp at hlt

/-- The lengths as a function of any natural position. -/
def lens (n : Fin 16 → ℕ) (i : ℕ) : ℕ := if h : i < 16 then n ⟨i, h⟩ else 0

/-- The sum of the first `M` lengths is where segment `M` starts. -/
theorem lens_sum (n : Fin 16 → ℕ) (M : ℕ) (hM : M ≤ 16) : ((List.range M).map (lens n)).sum = start n M := by
  induction M with
  | zero => exact (start_zero n).symm
  | succ M ih =>
    rw [List.range_succ, List.map_append, List.sum_append, ih (by omega), List.map_singleton, List.sum_singleton,
      start_succ n ⟨M, by omega⟩, lens, dif_pos (by omega)]

/-- A word between one and 16384, compared signed, has its value there. -/
theorem word_bounds (w : BitVec 32) (h : IntOp.andi (IntOp.cmpi .sge w 1#32) (IntOp.cmpi .sle w 16384#32) = 1#1) :
    1 ≤ w.toNat ∧ w.toNat ≤ 16384 := by
  have h' : BitVec.ofBool ((1#32).sle w) &&& BitVec.ofBool (w.sle 16384#32) = 1#1 := h
  have h1 : (1#32 : BitVec 32).toInt = 1 := by decide
  have h2 : (16384#32 : BitVec 32).toInt = 16384 := by decide
  have key : (1 : ℤ) ≤ w.toInt ∧ w.toInt ≤ 16384 := by
    cases e1 : (1#32).sle w <;> cases e2 : w.sle 16384#32 <;> rw [e1, e2] at h'
    · exact absurd h' (by decide)
    · exact absurd h' (by decide)
    · exact absurd h' (by decide)
    · rw [BitVec.sle, decide_eq_true_eq, h1] at e1
      rw [BitVec.sle, decide_eq_true_eq, h2] at e2
      exact ⟨e1, e2⟩
  have ht := BitVec.toInt_eq_toNat_cond w
  have := w.isLt
  by_cases hc : 2 * w.toNat < 2 ^ 32
  · rw [if_pos hc] at ht; omega
  · rw [if_neg hc] at ht; omega

/-- The precondition of one device's arguments, in plain words. -/
structure Drawn (X : FVec Ideal ⟨2, ![16384, 512]⟩ .f32) (Q : FVec Ideal ⟨2, ![16384, 32]⟩ .f32) (L : IVec ⟨1, ![16]⟩ 32)
    (W : FVec Ideal ⟨2, ![544, 256]⟩ .f32) (n : Fin 16 → ℕ) : Prop where
  len : ∀ k : Fin 16, L (ix1 k) = BitVec.ofNat 32 (n k)
  pos : ∀ k, 1 ≤ n k
  le : ∀ k, n k ≤ 16384
  total : start n 16 = 16384
  feat : ∀ i, ∃ u : ℝ, (X i : EReal) = u
  mask : ∀ i, ∃ u : ℝ, (Q i : EReal) = u
  weight : ∀ i, ∃ u : ℝ, (W i : EReal) = u

/-- The printed precondition, read. -/
theorem drawn_of_pre [hP : Cert.Pre_drawn.Facts] (m : (ℓ : Loc Cert.KernelIdeal.nD Cert.KernelIdeal.τ Cert.KernelIdeal.sig) → Buf (Elt Ideal) ℓ)
    (h : Cert.Pre_KernelIdeal_drawn m) (c : Dev Cert.KernelIdeal.nD) :
    ∃ n : Fin 16 → ℕ, Drawn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) n := by
  obtain ⟨h1, h2, h3, h4, h5⟩ := h c
  generalize m ((c.tc : Thread Cert.KernelIdeal.nD Cert.KernelIdeal.τ).loc Cert.KernelIdeal.main_arg0) = X at *
  generalize m ((c.tc : Thread Cert.KernelIdeal.nD Cert.KernelIdeal.τ).loc Cert.KernelIdeal.main_arg1) = Q at *
  generalize m ((c.tc : Thread Cert.KernelIdeal.nD Cert.KernelIdeal.τ).loc Cert.KernelIdeal.main_arg2) = L at *
  generalize m ((c.tc : Thread Cert.KernelIdeal.nD Cert.KernelIdeal.τ).loc Cert.KernelIdeal.main_arg3) = W at *
  change IVec ⟨1, ![16]⟩ 32 at L
  have hb : ∀ k : Fin 16, 1 ≤ (L (ix1 k)).toNat ∧ (L (ix1 k)).toNat ≤ 16384 := fun k => word_bounds _ (congrFun h1 (ix1 k))
  have hlen : ∀ k : Fin 16, L (ix1 k) = BitVec.ofNat 32 (L (ix1 k)).toNat := fun k => by rw [BitVec.ofNat_toNat, BitVec.setWidth_eq]
  have hsum : start (fun k => (L (ix1 k)).toNat) 16 = 16384 := by
    have e : Host.reduce IntOp.addi L (constantI Cert.Pre_drawn.S_ 32 0#32) hP.reducesTo_S16_S_d0 hP.h_S_ ix0 = 16384#32 :=
      StableHlo.Predicate.cmpi_eq_iff.1 (congrFun h2 ix0)
    have e' := (Routing.reduce_sum (N := 16) L (lens fun k => (L (ix1 k)).toNat)
      (fun i => by rw [lens, dif_pos i.isLt]; exact hlen i) hP.reducesTo_S16_S_d0 hP.h_S_).symm.trans e
    rw [lens_sum _ 16 le_rfl] at e'
    have hlt : start (fun k => (L (ix1 k)).toNat) 16 ≤ 16 * 16384 := by
      rw [start_last]
      refine (Finset.sum_le_card_nsmul _ _ 16384 fun k _ => (hb k).2).trans ?_
      simp
    have e'' := congrArg BitVec.toNat e'
    rw [BitVec.toNat_ofNat, Nat.mod_eq_of_lt (by omega)] at e''
    exact e''
  exact ⟨fun k => (L (ix1 k)).toNat, hlen, fun k => (hb k).1, fun k => (hb k).2, hsum,
    fun i => real_of_bit _ (congrFun h3 i), fun i => real_of_bit _ (congrFun h4 i),
    fun i => real_of_bit _ (congrFun h5 i)⟩

end Cert.SegMean

end
-- ==== Proof.Ref.lean ====
/- What the reference's two computed results hold: the activated rows, and each segment's mean, normalised. -/
module

public import proofs.«01_k».proof.Proof.Gen.ReferenceIdeal.Read
public import proofs.«01_k».proof.Proof.Pre
public import proofs.«01_k».proof.Proof.Words
public import Idealize.ShloMosaic.Lib.Pointwise
public import Idealize.ShloMosaic.Lib.DynamicIndex
public import Idealize.ShloMosaic.Lib.Routing.OpsOne

@[expose] public section

set_option maxRecDepth 16384

noncomputable section

namespace Cert.SegMean

open Idealize.ShloMosaic
open Cert.ReferenceIdeal Cert.ReferenceIdeal.Gen Cert.ReferenceIdeal.Read
open scoped BigOperators

/-- A running sum along a list is the start plus the sum of the list's values. -/
theorem fold_add_list {ι : Type} (g : ι → EReal) (l : List ι) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

/-- A running sum of finitely many values is the start plus their sum. -/
theorem fold_add {M : ℕ} (g : Fin M → EReal) (v : EReal) : (List.finRange M).foldl (fun r n => r + g n) v = v + ∑ n : Fin M, g n := by
  rw [fold_add_list, Fin.sum_univ_def]

/-- The window of the whole height ending at row `j`, its positions turned by `j + 1` rows: a turned position past the window's
    padding is a row up to `j`, and the padding's positions are the rows after `j`. -/
theorem turned_lt {R : ℕ} (n j : ℕ) (hn : n < R) (hj : j < R) :
    (R - 1 ≤ j + n ↔ (n + (j + 1) % R) % R < j + 1) ∧ (R - 1 ≤ j + n → j + n - (R - 1) = (n + (j + 1) % R) % R) := by
  rw [Nat.add_mod_mod]
  by_cases h : n + (j + 1) < R
  · rw [Nat.mod_eq_of_lt h]; omega
  · rw [Nat.mod_eq_sub_mod (by omega), Nat.mod_eq_of_lt (by omega)]; omega

/-- Running sums down the rows of a matrix, as a window of the whole height: entry `(j, c)` sums column `c` over the rows up to `j`. -/
theorem running_sum {R Rm1 C : ℕ} (hR : Rm1 + 1 = R) (x : (⟨2, ![R, C]⟩ : Shape).Idx → EReal)
    (h : (⟨2, ![R, C]⟩ : Shape).ReduceWindows (![R, 1] : Fin 2 → ℕ) ![1, 1] ![Rm1, 0] ![0, 0] ⟨2, ![R, C]⟩) (j : Fin R) (c : Fin C) :
    Ideal.hostReduceWindowAdd ![R, 1] ![1, 1] ![Rm1, 0] ![0, 0] h x 0 (ix2 j c) = ∑ r : Fin R, if r.val < j.val + 1 then x (ix2 r c) else 0 := by
  subst hR
  have hj := j.isLt
  have hc := c.isLt
  unfold Ideal.hostReduceWindowAdd Host.reduceWindow
  refine (fold_add (M := (⟨2, ![Rm1 + 1, 1]⟩ : Shape).numel) _ 0).trans ?_
  rw [zero_add]
  refine Fintype.sum_equiv ((finCongr (Routing.numel_col (Rm1 + 1))).trans
    (Equiv.addRight (⟨(j.val + 1) % (Rm1 + 1), Nat.mod_lt _ (Nat.succ_pos _)⟩ : Fin (Rm1 + 1)))) _ _ fun n => ?_
  have hn : n.val < Rm1 + 1 := (n.cast (Routing.numel_col _)).isLt
  have hw0 : ((⟨2, ![Rm1 + 1, 1]⟩ : Shape).rowMajor.symm n 0).val = n.val := by rw [Routing.symm_col]; rfl
  have hw1 : ((⟨2, ![Rm1 + 1, 1]⟩ : Shape).rowMajor.symm n 1).val = 0 := by rw [Routing.symm_col]; rfl
  have hr : ((finCongr (Routing.numel_col (Rm1 + 1))).trans
      (Equiv.addRight (⟨(j.val + 1) % (Rm1 + 1), Nat.mod_lt _ (Nat.succ_pos _)⟩ : Fin (Rm1 + 1))) n).val
      = (n.val + (j.val + 1) % (Rm1 + 1)) % (Rm1 + 1) := rfl
  obtain ⟨ht, hv⟩ := turned_lt n.val j.val hn hj
  rw [← hr] at ht hv
  simp only [Nat.add_sub_cancel] at ht hv
  generalize ((finCongr (Routing.numel_col (Rm1 + 1))).trans
      (Equiv.addRight (⟨(j.val + 1) % (Rm1 + 1), Nat.mod_lt _ (Nat.succ_pos _)⟩ : Fin (Rm1 + 1))) n) = r at ht hv
  dsimp only
  split
  · next hin =>
    have h0 := (hin 0).1
    change Rm1 ≤ j.val * 1 + ((⟨2, ![Rm1 + 1, 1]⟩ : Shape).rowMajor.symm n 0).val at h0
    rw [hw0, Nat.mul_one] at h0
    rw [if_pos (ht.1 h0)]
    refine congrArg x (funext fun a => Fin.ext ?_)
    match a with
    | ⟨0, _⟩ =>
      show j.val * 1 + ((⟨2, ![Rm1 + 1, 1]⟩ : Shape).rowMajor.symm n 0).val - Rm1 = r.val
      rw [hw0, Nat.mul_one, hv h0]
    | ⟨1, _⟩ =>
      show c.val * 1 + ((⟨2, ![Rm1 + 1, 1]⟩ : Shape).rowMajor.symm n 1).val - 0 = c.val
      rw [hw1]; omega
  · next hin =>
    rw [if_neg fun hle => hin fun a => by
      have h0 := ht.2 hle
      match a with
      | ⟨0, _⟩ =>
        show Rm1 ≤ j.val * 1 + ((⟨2, ![Rm1 + 1, 1]⟩ : Shape).rowMajor.symm n 0).val
          ∧ j.val * 1 + ((⟨2, ![Rm1 + 1, 1]⟩ : Shape).rowMajor.symm n 0).val - Rm1 < Rm1 + 1
        rw [hw0]; omega
      | ⟨1, _⟩ =>
        show 0 ≤ c.val * 1 + ((⟨2, ![Rm1 + 1, 1]⟩ : Shape).rowMajor.symm n 1).val
          ∧ c.val * 1 + ((⟨2, ![Rm1 + 1, 1]⟩ : Shape).rowMajor.symm n 1).val - 0 < C
        rw [hw1]; omega]

variable (X : FVec Ideal S16384x512 .f32) (Q : FVec Ideal S16384x32 .f32) (L : IVec S16 32) (W : FVec Ideal S544x256 .f32)
  (B : FVec Ideal S256 .f32) (g b : FVec Ideal S256 .f32)

/-- The reference's rows are the activated rows. -/
theorem ref_rows (r : Fin 16384) (j : Fin 256) : val_main_v9 (F := Ideal) X Q W B (ix2 r j) = act X Q W B r j := by
  pointwise [val_main_v9, val_main_v8, val_main_v7, val_main_v6, val_main_v5, val_main_v4, val_main_v3, val_main_v2, val_main_v1, val_main_v0,
    val_main_cst, val_main_cst_0, act, leaky, lin]

/-- The reference's running sums. -/
theorem ref_running (r : Fin 16384) (j : Fin 256) :
    val_main_v13 (F := Ideal) X Q W B (ix2 r j) = ∑ r' : Fin 16384, if r'.val < r.val + 1 then act X Q W B r' j else 0 := by
  have h0 : val_main_call2_call0_v0 (F := Ideal) (Shape.Idx.first h_S_) = (0 : EReal) := Ideal.ofBits_zero_f32
  unfold val_main_v13 Host.reduceWindowAdd
  rw [Ideal.hostReduceWindowAdd_def, h0]
  refine (running_sum (R := 16384) (Rm1 := 16383) rfl _ _ r j).trans ?_
  refine Finset.sum_congr rfl fun r' _ => ?_
  rw [ref_rows]

variable {n : Fin 16 → ℕ} (hD : Drawn X Q L W n)
include hD

/-- Every segment ends past its first row. -/
theorem start_pos (k : Fin 16) : 1 ≤ start n (k.val + 1) := by
  rw [start_succ]
  have := hD.pos k
  omega

/-- No segment ends past the last row. -/
theorem start_bound (k : Fin 16) : start n (k.val + 1) ≤ 16384 := by
  rw [← hD.total, start_last]
  unfold start
  refine Finset.sum_le_sum fun x _ => ?_
  split <;> omega

/-- The row the reference reads for a segment: the last one before the segment's end. -/
theorem ref_word (k : Fin 16) : val_main_v19 (F := Ideal) L (ix2 k 0) = BitVec.ofNat 32 (start n (k.val + 1) - 1) := by
  have e10 : val_main_v10 (F := Ideal) L (ix1 k) = BitVec.ofNat 32 (start n (k.val + 1)) := by
    have := Routing.cumsum1 (N := 16) (Nm1 := 15) rfl L (lens n) (fun i => by rw [lens, dif_pos i.isLt]; exact hD.len i)
      (val_main_call1_call0_v0 (F := Ideal)) rfl reduceWindows_S16_S16_w16s1p15_0 h_S_ k
    rw [lens_sum n _ (by omega)] at this
    exact this
  have e12 : val_main_v12 (F := Ideal) L (ix1 k) = BitVec.ofNat 32 (start n (k.val + 1) - 1) := by
    refine (congrArg (fun z => IntOp.subi z (1#32)) e10).trans ?_
    exact StableHlo.Predicate.sub_one_ofNat _ (start_pos X Q L W hD k) (by have := start_bound X Q L W hD k; omega)
  have e19 : val_main_v19 (F := Ideal) L (ix2 k 0) = val_main_v18 (F := Ideal) L (ix1 k) := by pointwise [val_main_v19]
  rw [e19, val_main_v18_apply]
  refine (Routing.wrap_of_lt (w := 32) _ _ ?_).trans e12
  rw [e12, BitVec.toNat_ofNat]
  have := start_bound X Q L W hD k
  omega

/-- The reference's row for a segment: the sum of the activated rows before the segment's end. -/
theorem ref_upto (k : Fin 16) (j : Fin 256) :
    val_main_v20 (F := Ideal) X Q L W B (ix2 k j) = ∑ r : Fin 16384, if r.val < start n (k.val + 1) then act X Q W B r j else 0 := by
  have hp := start_pos X Q L W hD k
  have hb := start_bound X Q L W hD k
  refine (Routing.gather_row gather_S16384x256_S16x1_S16x256_1_0_n_n_0_1_1256 rfl rfl rfl rfl rfl (val_main_v13 (F := Ideal) X Q W B)
    (val_main_v19 (F := Ideal) L) k j ⟨start n (k.val + 1) - 1, by omega⟩ (ref_word X Q L W hD k) (by decide)).trans ?_
  refine (ref_running X Q W B _ j).trans ?_
  show (∑ r : Fin 16384, if r.val < start n (k.val + 1) - 1 + 1 then act X Q W B r j else 0) = _
  rw [Nat.sub_add_cancel hp]

omit hD in
/-- What the reference subtracts for a segment: the row of the segment before it, and zero for the first. -/
theorem ref_before (k : Fin 16) (j : Fin 256) :
    val_main_v23 (F := Ideal) X Q L W B (ix2 k j)
      = if h : 1 ≤ k.val then val_main_v20 (F := Ideal) X Q L W B (ix2 ⟨k.val - 1, by omega⟩ j) else (0 : EReal) := by
  unfold val_main_v23 val_main_v22 val_main_v21
  generalize val_main_v20 (F := Ideal) X Q L W B = y
  pointwise [val_main_cst_3]
  by_cases h : k.val < 1
  · rw [dif_pos h, dif_neg (by omega)]
  · rw [dif_neg h, dif_pos (by omega)]

omit hD in
/-- The reference's mean of a segment, over the rows it reads. -/
theorem ref_div (k : Fin 16) (j : Fin 256) :
    val_main_v28 (F := Ideal) X Q L W B (ix2 k j)
      = Ideal.div (val_main_v20 (F := Ideal) X Q L W B (ix2 k j) - val_main_v23 (F := Ideal) X Q L W B (ix2 k j))
          (FloatOps.sitofp (F := Ideal) .f32 (L (ix1 k))) := by
  unfold val_main_v28 val_main_v26
  generalize val_main_v20 (F := Ideal) X Q L W B = y
  generalize val_main_v23 (F := Ideal) X Q L W B = z
  pointwise [val_main_v27, val_main_v25, val_main_v24]

/-- The reference's mean of a segment. -/
theorem ref_quot (k : Fin 16) (j : Fin 256) :
    val_main_v28 (F := Ideal) X Q L W B (ix2 k j)
      = Ideal.div ((∑ r : Fin 16384, if r.val < start n (k.val + 1) then act X Q W B r j else 0)
            - ∑ r : Fin 16384, if r.val < start n k.val then act X Q W B r j else 0) ((n k : ℝ) : EReal) := by
  rw [ref_div, hD.len, sitofp_ofNat _ (by have := hD.le k; omega), ref_upto X Q L W B hD]
  refine congrArg (fun z => Ideal.div (_ - z) _) ?_
  rw [ref_before]
  split
  · next h =>
    refine (ref_upto X Q L W B hD _ j).trans ?_
    show (∑ r : Fin 16384, if r.val < start n (k.val - 1 + 1) then act X Q W B r j else 0) = _
    rw [Nat.sub_add_cancel h]
  · next h =>
    rw [show k.val = 0 by omega, start_zero, sum_before_zero]

omit hD

/-- The reference's mean of a row. -/
theorem ref_mean (k : Fin 16) :
    val_main_v32 (F := Ideal) X Q L W B (ix2 k 0) = mean fun x => val_main_v28 (F := Ideal) X Q L W B (ix2 k x) := by
  pointwise [val_main_v32, val_main_v31, val_main_v30, val_main_v29, val_main_cst_4, val_main_cst_5, mean]

/-- The reference's spread of a row. -/
theorem ref_spread (k : Fin 16) :
    val_main_v44 (F := Ideal) X Q L W B (ix2 k 0) = spread fun x => val_main_v28 (F := Ideal) X Q L W B (ix2 k x) := by
  have e := ref_mean X Q L W B k
  pointwise [val_main_v44, val_main_v43, val_main_v42, val_main_v39, val_main_v38, val_main_v37, val_main_v36, val_main_v35, val_main_v34,
    val_main_v33, val_main_cst_6, val_main_cst_7, val_main_cst_8, spread, e]

/-- The reference's normalised row. -/
theorem ref_norm (k : Fin 16) (j : Fin 256) :
    val_main_v52 (F := Ideal) X Q L W B g b (ix2 k j)
      = norm (fun x => val_main_v28 (F := Ideal) X Q L W B (ix2 k x)) (g (ix1 j)) (b (ix1 j)) j := by
  have e := ref_mean X Q L W B k
  have e' := ref_spread X Q L W B k
  pointwise [val_main_v52, val_main_v51, val_main_v50, val_main_v49, val_main_v48, val_main_v47, val_main_v46, val_main_v45,
    val_main_v41, val_main_v40, norm, e, e']

include hD in
/-- The reference's normalised means. -/
theorem ref_means (k : Fin 16) (j : Fin 256) :
    val_main_v52 (F := Ideal) X Q L W B g b (ix2 k j)
      = norm (fun x => Ideal.div
          ((∑ r : Fin 16384, if r.val < start n (k.val + 1) then act X Q W B r x else 0)
            - ∑ r : Fin 16384, if r.val < start n k.val then act X Q W B r x else 0) ((n k : ℝ) : EReal)) (g (ix1 j)) (b (ix1 j)) j := by
  rw [ref_norm]
  exact congrArg (fun v => norm v (g (ix1 j)) (b (ix1 j)) j) (funext fun x => ref_quot X Q L W B hD k x)

end Cert.SegMean

end
-- ==== Proof.Infinite.lean ====
/- What an infinite value does to the two programs: an infinite bias makes a column of every segment's means infinite, and a
   row with an infinite entry is normalised to the shift alone, whatever else it holds. -/
module

public import proofs.«01_k».proof.Proof.Maths

@[expose] public section

noncomputable section

namespace Cert.SegMean

open Idealize.ShloMosaic
open scoped BigOperators

/-- One of the two infinities. -/
def Infin (x : EReal) : Prop := x = ⊤ ∨ x = ⊥

/-- A value that is not a real number is infinite. -/
theorem infin_of_not_real {x : EReal} (h : ¬ ∃ u : ℝ, x = u) : Infin x := by
  induction x with
  | bot => exact .inr rfl
  | top => exact .inl rfl
  | coe u => exact absurd ⟨u, rfl⟩ h

/-- An infinite value and anything sum to an infinite value. -/
theorem Infin.add {x : EReal} (h : Infin x) (y : EReal) : Infin (x + y) := by
  rcases h with rfl | rfl
  · induction y with
    | bot => exact .inr (EReal.add_bot _)
    | top => exact .inl EReal.top_add_top
    | coe u => exact .inl (EReal.top_add_coe u)
  · exact .inr (EReal.bot_add y)

/-- An infinite value less anything is infinite. -/
theorem Infin.sub {x : EReal} (h : Infin x) (y : EReal) : Infin (x - y) := by
  rw [sub_eq_add_neg]
  exact h.add _

/-- A sum with an infinite term is infinite. -/
theorem Infin.sum {ι : Type} [Fintype ι] [DecidableEq ι] (f : ι → EReal) (i : ι) (h : Infin (f i)) : Infin (∑ k, f k) := by
  rw [← Finset.add_sum_erase _ _ (Finset.mem_univ i)]
  exact h.add _

/-- A positive real times an infinite value is infinite. -/
theorem Infin.mul {x : EReal} (h : Infin x) {u : ℝ} (hu : 0 < u) : Infin ((u : EReal) * x) := by
  rcases h with rfl | rfl
  · exact .inl (EReal.coe_mul_top_of_pos hu)
  · exact .inr (EReal.coe_mul_bot_of_pos hu)

/-- An infinite value divided by a positive real is infinite. -/
theorem Infin.div {x : EReal} (h : Infin x) {u : ℝ} (hu : 0 < u) : Infin (Ideal.div x (u : EReal)) := by
  rw [Ideal.div_coe hu.ne', mul_comm]
  exact h.mul (one_div_pos.2 hu)

/-- The square of an infinite value is infinity. -/
theorem Infin.mul_self {x : EReal} (h : Infin x) : x * x = ⊤ := by
  rcases h with rfl | rfl
  · exact EReal.top_mul_top
  · exact EReal.bot_mul_bot

/-- The slope is a positive real. -/
theorem slope_pos : ∃ u : ℝ, 0 < u ∧ Ideal.ofBits .f32 0x3C23D70A#32 = u :=
  ⟨10737418 / 2 ^ 30, by norm_num, by simp [Ideal.ofBits, Ideal.ieee, -EReal.coe_mul]; norm_num⟩

/-- The number of columns is a positive real. -/
theorem columns_pos : ∃ u : ℝ, 0 < u ∧ Ideal.ofBits .f32 0x43800000#32 = u :=
  ⟨256, by norm_num, by simp [Ideal.ofBits, Ideal.ieee, -EReal.coe_mul]; norm_num⟩

/-- The constant added before the root is a real. -/
theorem small_real : ∃ u : ℝ, Ideal.ofBits .f32 0x3727C5AC#32 = u := by
  simp [Ideal.ofBits, Ideal.ieee, -EReal.coe_mul]

/-- The activation of an infinite value is infinite. -/
theorem Infin.leaky {z : EReal} (h : Infin z) : Infin (leaky z) := by
  unfold Cert.SegMean.leaky
  split
  · exact h
  · obtain ⟨u, hu, e⟩ := slope_pos
    rw [e]
    exact h.mul hu

/-- In a column whose bias is infinite every activated entry is infinite. -/
theorem infin_act (X : FVec Ideal ⟨2, ![16384, 512]⟩ .f32) (Q : FVec Ideal ⟨2, ![16384, 32]⟩ .f32) (W : FVec Ideal ⟨2, ![544, 256]⟩ .f32)
    (B : FVec Ideal ⟨1, ![256]⟩ .f32) (j : Fin 256) (h : Infin (B (ix1 j))) (r : Fin 16384) : Infin (act X Q W B r j) := by
  unfold act lin
  refine Infin.leaky ?_
  rw [add_comm]
  exact h.add _

/-- A square is not negative. -/
theorem mul_self_nonneg' (z : EReal) : 0 ≤ z * z := by
  rcases le_total 0 z with h | h
  · exact mul_nonneg h h
  · rw [← neg_mul_neg]
    have : 0 ≤ -z := EReal.neg_nonneg.2 h
    exact mul_nonneg this this

/-- The spread of a row with an infinite entry is infinity. -/
theorem spread_infin (v : Fin 256 → EReal) (j : Fin 256) (h : Infin (v j)) : spread v = ⊤ := by
  unfold spread
  have hs : (∑ l : Fin 256, (v l - mean v) * (v l - mean v)) = ⊤ := by
    refine top_le_iff.1 ?_
    rw [← (h.sub (mean v)).mul_self]
    exact Finset.single_le_sum (f := fun l => (v l - mean v) * (v l - mean v)) (fun l _ => mul_self_nonneg' _) (Finset.mem_univ j)
  obtain ⟨u, hu, eu⟩ := columns_pos
  obtain ⟨w, ew⟩ := small_real
  rw [hs, eu, ew, Ideal.div_coe hu.ne', EReal.top_mul_coe_of_pos (one_div_pos.2 hu), EReal.top_add_coe, Ideal.sqrt_top]

/-- A row with an infinite entry is normalised to the shift. -/
theorem norm_infin (v : Fin 256 → EReal) (g b : EReal) (j l : Fin 256) (h : Infin (v j)) : norm v g b l = b := by
  unfold norm
  rw [spread_infin v j h, Ideal.div, if_neg EReal.top_ne_zero, EReal.inv_top, mul_zero, zero_mul, zero_add]

/-- Infinite rows have an infinite sum from any start within them. -/
theorem infin_from {N : ℕ} (y : Fin N → EReal) (h : ∀ r, Infin (y r)) (s : ℕ) (hs : s < N) :
    Infin (∑ r : Fin N, (if s ≤ r.val then (1 : EReal) else 0) * y r) :=
  Infin.sum _ ⟨s, hs⟩ (by rw [if_pos le_rfl, one_mul]; exact h _)

/-- Infinite rows have an infinite sum before any end past the first. -/
theorem infin_before {N : ℕ} (y : Fin N → EReal) (h : ∀ r, Infin (y r)) (e : ℕ) (h0 : 0 < N) (he : 0 < e) :
    Infin (∑ r : Fin N, if r.val < e then y r else 0) :=
  Infin.sum _ ⟨0, h0⟩ (by rw [if_pos he]; exact h _)

/-- Over real features, masks and weights, whatever the bias: every activated entry is a real, or some column is infinite in
    every row. -/
theorem act_cases (X : FVec Ideal ⟨2, ![16384, 512]⟩ .f32) (Q : FVec Ideal ⟨2, ![16384, 32]⟩ .f32) (W : FVec Ideal ⟨2, ![544, 256]⟩ .f32)
    (B : FVec Ideal ⟨1, ![256]⟩ .f32) (hX : ∀ i, ∃ u : ℝ, (X i : EReal) = u) (hQ : ∀ i, ∃ u : ℝ, (Q i : EReal) = u)
    (hW : ∀ i, ∃ u : ℝ, (W i : EReal) = u) :
    (∀ r j, ∃ u : ℝ, act X Q W B r j = u) ∨ ∃ j, ∀ r, Infin (act X Q W B r j) := by
  by_cases hB : ∀ j : Fin 256, ∃ u : ℝ, (B (ix1 j) : EReal) = u
  · exact .inl fun r j => real_act X Q W B hX hQ hW r j (hB j)
  · obtain ⟨j, hj⟩ := not_forall.1 hB
    exact .inr ⟨j, infin_act X Q W B j (infin_of_not_real hj)⟩

/-- A segment's normalised means are the same from the sums after its two ends as from the sums before them: the rows are
    real and the differences agree, or both rows of means have an infinite entry. -/
theorem segment_norm {N : ℕ} (y : Fin N → Fin 256 → EReal) (h : (∀ r j, ∃ u : ℝ, y r j = u) ∨ ∃ j, ∀ r, Infin (y r j))
    (s e : ℕ) (hs : s < N) (he : 0 < e) {u : ℝ} (hu : 0 < u) (g b : EReal) (l : Fin 256) :
    norm (fun x => Ideal.div ((∑ r : Fin N, (if s ≤ r.val then (1 : EReal) else 0) * y r x)
        - ∑ r : Fin N, (if e ≤ r.val then (1 : EReal) else 0) * y r x) (u : EReal)) g b l
      = norm (fun x => Ideal.div ((∑ r : Fin N, if r.val < e then y r x else 0)
        - ∑ r : Fin N, if r.val < s then y r x else 0) (u : EReal)) g b l := by
  rcases h with h | ⟨j, h⟩
  · exact congrArg (fun v => norm v g b l) (funext fun x => by rw [segment_sum (fun r => y r x) (fun r => h r x)])
  · exact (norm_infin _ g b j l (((infin_from (fun r => y r j) h s hs).sub _).div hu)).trans
      (norm_infin _ g b j l (((infin_before (fun r => y r j) h e (by omega) he).sub _).div hu)).symm

end Cert.SegMean

end
-- ==== Proof.Equation.lean ====
/- The kernel's results and the reference's, brought to one form. -/
module

public import proofs.«01_k».proof.Proof.Array
public import proofs.«01_k».proof.Proof.Ref
public import proofs.«01_k».proof.Proof.Infinite
public import proofs.«01_k».proof.Proof.Gen.ReferenceIdeal.Run

@[expose] public section

set_option maxRecDepth 16384

noncomputable section

namespace Cert.SegMean

open Idealize.ShloMosaic Idealize.ShloMosaic.TcCoe Idealize.SL.Sem
open scoped BigOperators

variable (m : (ℓ : Loc Cert.KernelIdeal.nD Cert.KernelIdeal.τ Cert.KernelIdeal.sig) → Buf (Elt Ideal) ℓ) (c : Dev Cert.KernelIdeal.nD)

/-- The kernel's rows are the reference's. -/
theorem rows_eq : rowsK m c = Cert.ReferenceIdeal.Read.val_main_v9 (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg3))
    (m ((c : Thread Cert.KernelIdeal.nD Cert.KernelIdeal.τ).loc Cert.KernelIdeal.main_arg4)) := by
  funext i
  idx_vars i
  exact (ref_rows _ _ _ _ i0 i1).symm

/-- The kernel's normalised means are the reference's, where the precondition holds. -/
theorem means_eq (n : Fin 16 → ℕ) (hD : Drawn
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)) n) :
    meansK m c n = Cert.ReferenceIdeal.Read.val_main_v52 (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5))
    (m ((c : Thread Cert.KernelIdeal.nD Cert.KernelIdeal.τ).loc Cert.KernelIdeal.main_arg6)) := by
  funext i
  idx_vars i
  refine Eq.trans ?_ (ref_means _ _ _ _ _ _ _ hD i0 i1).symm
  have hs := start_succ n i0
  have hl := start_le n (i0.val + 1)
  have ht := hD.total
  have hp := hD.pos i0
  rw [← start_last, ht] at hl
  exact segment_norm (fun r j => actK m c r j) (act_cases _ _ _ _ hD.feat hD.mask hD.weight) (start n i0.val)
    (start n (i0.val + 1)) (by omega) (by omega) (Nat.cast_pos.2 hp) _ _ i1

/-- The two programs, from agreeing arguments that meet the precondition, end with equal results. -/
theorem results_agree [hP : Cert.Pre_drawn.Facts] :
    Cert.algebraic_KernelIdeal_ReferenceIdeal_pre_drawn (hKernelIdeal := Cert.KernelIdeal.Gen.facts)
      (hReferenceIdeal := Cert.ReferenceIdeal.Gen.facts) (hPre_drawn := hP) := by
  intro m g m' g' hpre hagree
  refine ⟨fun c => Cert.KernelIdeal.Value.G8 m c, fun c => Cert.KernelIdeal.Value.G7 m c,
    fun c => m ((c.tc : Thread Cert.KernelIdeal.nD Cert.KernelIdeal.τ).loc Cert.KernelIdeal.main_arg1), ?_, ?_⟩
  · refine (θ_run _ _ _).mono (fun r h c => ?_) (Cert.KernelIdeal.Value.run (F := Ideal) m g)
    obtain ⟨h0, h1, a0, a1, a2, a3, a4, a5, a6⟩ := h c
    exact ⟨h1, h0, a1, a0, a1, a2, a3, a4, a5, a6⟩
  · refine (θ_run _ _ _).mono (fun r h c => ?_) (Cert.ReferenceIdeal.Value.run (F := Ideal) m' g')
    obtain ⟨h0, h1, h2, a⟩ := h c
    obtain ⟨e0, e1, e2, e3, e4, e5, e6⟩ := hagree c
    obtain ⟨n, hD⟩ := drawn_of_pre m hpre c
    refine ⟨h0.trans ?_, h1.trans ?_, h2.trans e1, a⟩
    · rw [Cert.ReferenceIdeal.Read.val_main_v52_eq, e0, e1, e2, e3, e4, e5, e6]
      exact ((Cert.KernelIdeal.Value.final8 m c).symm.trans
        ((means_final m c n hD.len hD.le hD.total).trans (means_eq m c n hD))).symm
    · rw [Cert.ReferenceIdeal.Read.val_main_v9_eq, e0, e1, e3, e4]
      exact ((Cert.KernelIdeal.Value.final7 m c).symm.trans ((rows_final m c).trans (rows_eq m c))).symm

end Cert.SegMean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs, leaves its arguments as they were, and ends with every counter at zero: it declares no
    semaphore, so it has no counter to leave anywhere else. -/
theorem reference_quiescent
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2.2, sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, Cert.SegMean.preFacts,
    fun m ρ _ => Cert.Kernel.Gen.frame m ρ,
    fun m ρ _ => Cert.KernelIdeal.Gen.frame m ρ,
    fun m ρ _ => Cert.KernelIdeal.Gen.frame m ρ,
    fun m g _ => reference_quiescent m g,
    fun m g _ => reference_quiescent m g,
    trivial,
    Cert.SegMean.results_agree (hP := Cert.SegMean.preFacts)⟩

end Cert.Proof

end
